-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x65536x3 : Shape := ⟨3, ![4, 65536, 3]⟩
abbrev S1x96x256x256 : Shape := ⟨4, ![1, 96, 256, 256]⟩
abbrev S96x256x256 : Shape := ⟨3, ![96, 256, 256]⟩
abbrev S4x96x256x256 : Shape := ⟨4, ![4, 96, 256, 256]⟩
abbrev S8x256x256 : Shape := ⟨3, ![8, 256, 256]⟩
abbrev S4x8x256x256 : Shape := ⟨4, ![4, 8, 256, 256]⟩
abbrev S1x8x256x256 : Shape := ⟨4, ![1, 8, 256, 256]⟩

abbrev nBuf : Space → Nat
  | .hbm => 4
  | .vmem => 4
  | .smem => 0
  | _ => 0

abbrev bufTy : (tb : Table) → Fin (tcTables nBuf tb) → BufTy
  | .hbm, ⟨0, _⟩ => ⟨S4x65536x3, .f32⟩
  | .hbm, ⟨1, _⟩ => ⟨S1x96x256x256, .f32⟩
  | .hbm, ⟨2, _⟩ => ⟨S96x256x256, .f32⟩
  | .hbm, ⟨3, _⟩ => ⟨S4x96x256x256, .f32⟩
  | .local _ .vmem, ⟨0, _⟩ => ⟨S8x256x256, .f32⟩
  | .local _ .vmem, ⟨1, _⟩ => ⟨S8x256x256, .f32⟩
  | .local _ .vmem, ⟨2, _⟩ => ⟨S4x8x256x256, .f32⟩
  | .local _ .vmem, ⟨3, _⟩ => ⟨S4x8x256x256, .f32⟩
  | _, _ => ⟨S4x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x65536x3 : Shape := ⟨3, ![4, 65536, 3]⟩
abbrev S1x96x256x256 : Shape := ⟨4, ![1, 96, 256, 256]⟩
abbrev S4x96x256x256 : Shape := ⟨4, ![4, 96, 256, 256]⟩

abbrev nBuf : Space → Nat
  | .hbm => 3
  | .vmem => 0
  | .smem => 0
  | _ => 0

abbrev bufTy : (tb : Table) → Fin (tcTables nBuf tb) → BufTy
  | .hbm, ⟨0, _⟩ => ⟨S4x65536x3, .f32⟩
  | .hbm, ⟨1, _⟩ => ⟨S1x96x256x256, .f32⟩
  | .hbm, ⟨2, _⟩ => ⟨S4x96x256x256, .f32⟩
  | _, _ => ⟨S4x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Spread.lean ====
/- What the program computes, apart from any memory: an array [1, 96, 256, 256] repeated along its leading axis. -/
module

public import Idealize.ShloMosaic.Lib.ValueIdx
public import Idealize.ShloMosaic.Lib.Pointwise
public import Idealize.ShloMosaic.PureOps

@[expose] public section

noncomputable section

namespace Cert.Spread

open Idealize.ShloMosaic

/-- The parameter's shape. -/
abbrev Src : Shape := ⟨4, ![1, 96, 256, 256]⟩
/-- The result's shape. -/
abbrev Dst : Shape := ⟨4, ![4, 96, 256, 256]⟩
/-- The shape that the kernel reads the parameter in: its unit axis dropped. -/
abbrev Flat : Shape := ⟨3, ![96, 256, 256]⟩

/-- The element of the parameter that the result's element `i` repeats: batch 0, the same channel, row and column. -/
abbrev home (i : Dst.Idx) : Src.Idx := ix4 0 (i 1) (i 2) (i 3)

/-- The parameter repeated over the batch. -/
def spread {α : Type} (f : Src.Idx → α) : Dst.Idx → α := fun i => f (home i)

/-- The reference's operation, a broadcast that keeps every axis, is the repetition. -/
theorem broadcastInDim_eq {α : Type} (h : Src.BroadcastsInDim Dst ![0, 1, 2, 3]) (f : Src.Idx → α) :
    broadcastInDim Dst ![0, 1, 2, 3] h f = spread f := by
  funext i
  unfold broadcastInDim
  refine congrArg f (funext fun a => Fin.ext ?_)
  match a with
  | ⟨0, _⟩ => exact (congrArg Fin.val (dif_pos rfl)).trans rfl
  | ⟨1, _⟩ => exact (congrArg Fin.val (dif_neg (by decide +revert))).trans rfl
  | ⟨2, _⟩ => exact (congrArg Fin.val (dif_neg (by decide +revert))).trans rfl
  | ⟨3, _⟩ => exact (congrArg Fin.val (dif_neg (by decide +revert))).trans rfl

/-- The kernel's first step drops the unit axis, which moves no element: the flat array at the channel, row and column of
    `i` is the repetition at `i`. -/
theorem shapeCast_flat {α : Type} (h : Src.ShapeCasts Flat) (f : Src.Idx → α) (i : Dst.Idx) :
    shapeCast Flat f h (ix3 (i 1) (i 2) (i 3)) = spread f i := by
  refine shapeCast_apply _ _ _ _ ?_
  rw [Shape.rowMajor_val_three, Shape.rowMajor_val_four]
  show ((0 * 96 + (i 1).val) * 256 + (i 2).val) * 256 + (i 3).val = ((i 1).val * 256 + (i 2).val) * 256 + (i 3).val
  omega

end Cert.Spread

end
-- ==== Proof.KernelArray.lean ====
/- What the kernel's run leaves in its result, for any reading of the floats: the parameter repeated over the batch. -/
module

public import proofs.«01_k».proof.Proof.Gen.Kernel.Value
public import proofs.«01_k».proof.Proof.Spread
public import Idealize.ShloMosaic.Lib.Pipeline.ValueKit
public import Idealize.ShloMosaic.Lib.Claim

@[expose] public section

noncomputable section

namespace Cert.Kernel.Array

open Cert.Kernel Cert.Kernel.Gen Cert.Kernel.Value Cert.Spread Idealize.ShloMosaic Idealize.ShloMosaic.TcCoe
open Idealize.SL.Sem

variable {F : FTy → Type} [FloatOps F]
variable (m : (ℓ : Loc nD τ sig) → Buf (Elt F) ℓ) (ρ : Dev nD → PrngReg)

/-- At grid point `t` the input window stands at channel block `t`. -/
theorem index_in : ∀ t : Fin cfg0.N, win0_0.index t = ![t.val, 0, 0] :=
  (by decide +kernel : ∀ t : Fin grid0.N, win0_0.index t = ![t.val, 0, 0])

/-- At grid point `t` the output window stands at channel block `t`, over the whole batch. -/
theorem index_out : ∀ t : Fin cfg0.N, win0_1.index t = ![0, t.val, 0, 0] :=
  (by decide +kernel : ∀ t : Fin grid0.N, win0_1.index t = ![0, t.val, 0, 0])

/-- When the region starts, the array that the input window reads is the parameter with its unit axis dropped. -/
theorem entry_flat (c : Dev nD) :
    V m c main_v0 = shapeCast S96x256x256 (m ((c : Thread nD τ).loc main_arg1)) Facts₀.shapeCasts_S1x96x256x256_S96x256x256 := by
  entry_read
  rfl

/-- What the body leaves at element `y` of the output block is the input block at `y`'s channel, row and column. -/
theorem body_apply (x : Vec F S8x256x256 .f32) (y : S4x8x256x256.Idx) : out0_1 x y = x (ix3 (y 1) (y 2) (y 3)) := by
  unfold out0_1
  rw [canon1_eq]
  refine congrArg x (funext fun a => Fin.ext ?_)
  match a with
  | ⟨0, _⟩ => show 0 + 1 * (y 1).val = (y 1).val; omega
  | ⟨1, _⟩ => show 0 + 1 * (y 2).val = (y 2).val; omega
  | ⟨2, _⟩ => show 0 + 1 * (y 3).val = (y 3).val; omega

/-- The result array after the run is the parameter repeated over the batch. -/
theorem result_eq (c : Dev nD) : (dats m 0 c).arrAt 1 cfg0.N = spread (m ((c : Thread nD τ).loc main_arg1)) := by
  refine (dats m 0 c).arrAt_eq_of_covers 1 _ (by decide +kernel) fun t _ y => ?_
  blk_simp
  rw [after0_1, body_apply, ← shapeCast_flat Facts₀.shapeCasts_S1x96x256x256_S96x256x256, ← entry_flat m c]
  blk_simp [iblk]
  blk_ext! [index_in t, index_out t]

/-- The run: the result is the parameter repeated over the batch, the arguments are as they were. -/
theorem run : θ_run defs (onTc (τ := τ) (main (F := F))) ⟨m, fun _ => 0, ρ⟩ fun r => ∀ c : Dev nD,
      r.2.mem ((c : Thread nD τ).loc main_v1) = spread (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (run_blocks m ρ)

end Cert.Kernel.Array

end
-- ==== Proof.IdealArray.lean ====
/- What the idealization's run leaves in its result: the same as the kernel's, since nothing was rewritten between the two. -/
module

public import proofs.«01_k».proof.Proof.Gen.KernelIdeal
public import proofs.«01_k».proof.Proof.KernelArray

@[expose] public section

noncomputable section

namespace Cert.KernelIdeal.Array

open Cert.KernelIdeal Cert.Spread Idealize.ShloMosaic Idealize.ShloMosaic.TcCoe
open Idealize.SL.Sem

variable {F : FTy → Type} [FloatOps F]
variable (m : (ℓ : Loc nD τ sig) → Buf (Elt F) ℓ) (ρ : Dev nD → PrngReg)

/-- The idealization has the kernel's body. -/
theorem bodies_same : defs₀ (F := F) = Cert.Kernel.defs₀ (F := F) := by
  unfold defs₀ Cert.Kernel.defs₀
  refine congrArg Defs.onTc (funext fun l => ?_)
  match l with
  | 0 => rfl

/-- The idealization has the kernel's definitions: its body and its one pipeline. -/
theorem defs_same : defs (F := F) = Cert.Kernel.defs (F := F) := congrArg (Pipeline.defs pcfgs) bodies_same

/-- The idealization's run: the result is the parameter repeated over the batch, the arguments are as they were. -/
theorem run : θ_run defs (onTc (τ := τ) (main (F := F))) ⟨m, fun _ => 0, ρ⟩ fun r => ∀ c : Dev nD,
      r.2.mem ((c : Thread nD τ).loc main_v1) = spread (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  rw [defs_same]; exact Cert.Kernel.Array.run m ρ

end Cert.KernelIdeal.Array

end
-- ==== Proof.lean ====
/- The proof of the certificate: the two programs' frames as generated, the two references' frames, and the two value
   claims. The kernel's result and the reference's are both the parameter repeated over the batch (`Cert.Spread.spread`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.IdealArray
public import proofs.«01_k».proof.Proof.Gen.Reference.Run
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Spread

/-- The idealized reference runs, keeps its arguments, and has no semaphore to leave raised. -/
theorem frame_refIdeal : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The reference runs, keeps its arguments, and has no semaphore to leave raised. -/
theorem frame_ref : Cert.quiescent_Reference := fun m g _ =>
  (θ_run Cert.Reference.defs _ _).mono
    (fun r h => ⟨fun c => (h c).2, sem_eq_zero_of_no_sems (by decide) r.2⟩) (Cert.Reference.Value.run m g)

/-- Over the extended reals, the kernel and the reference both leave the parameter repeated over the batch. -/
theorem algebraic : Cert.algebraic_KernelIdeal_ReferenceIdeal := fun m g m' g' _ hagree =>
  ⟨fun c => spread (m ((c.tc : Thread Cert.KernelIdeal.nD Cert.KernelIdeal.τ).loc Cert.KernelIdeal.main_arg1)),
    Cert.KernelIdeal.Array.run m g,
    (θ_run Cert.ReferenceIdeal.defs _ _).mono
      (fun _ h c => ⟨(h c).1.trans ((broadcastInDim_eq _ _).trans (congrArg spread (hagree c).2)), (h c).2⟩)
      (Cert.ReferenceIdeal.Value.run m' g')⟩

/-- Bit for bit, the kernel and the reference both leave the parameter repeated over the batch. -/
theorem bitexact : Cert.bitexact_Kernel_Reference := fun m g m' g' _ hagree =>
  ⟨fun c => spread (m ((c.tc : Thread Cert.Kernel.nD Cert.Kernel.τ).loc Cert.Kernel.main_arg1)),
    Cert.Kernel.Array.run m g,
    (θ_run Cert.Reference.defs _ _).mono
      (fun _ h c => ⟨(h c).1.trans ((broadcastInDim_eq _ _).trans (congrArg spread (hagree c).2)), (h c).2⟩)
      (Cert.Reference.Value.run m' g')⟩

/-- The certificate. -/
theorem claim : Cert.Claim :=
  ⟨Cert.Kernel.Gen.facts, Cert.KernelIdeal.Gen.facts, Cert.ReferenceIdeal.Gen.facts, Cert.Reference.Gen.facts,
    fun m g _ => Cert.Kernel.Gen.frame m g, fun m g _ => Cert.KernelIdeal.Gen.frame m g, frame_refIdeal, frame_ref,
    trivial, algebraic, bitexact⟩

end Cert.Proof

end
